-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x500x10 : Shape := ⟨3, ![8, 500, 10]⟩
abbrev S8x32x400x400 : Shape := ⟨4, ![8, 32, 400, 400]⟩
abbrev S8x10x500 : Shape := ⟨3, ![8, 10, 500]⟩
abbrev S_ : Shape := ⟨0, ![]⟩
abbrev S8x16x512 : Shape := ⟨3, ![8, 16, 512]⟩
abbrev S8x4x400x400 : Shape := ⟨4, ![8, 4, 400, 400]⟩
abbrev S8x2x400x400 : Shape := ⟨4, ![8, 2, 400, 400]⟩
abbrev S8x1x400x400 : Shape := ⟨4, ![8, 1, 400, 400]⟩
abbrev S8x3x400x400 : Shape := ⟨4, ![8, 3, 400, 400]⟩
abbrev S1x16x512 : Shape := ⟨3, ![1, 16, 512]⟩
abbrev S1x4x400x400 : Shape := ⟨4, ![1, 4, 400, 400]⟩
abbrev S1x2x400x400 : Shape := ⟨4, ![1, 2, 400, 400]⟩
abbrev S1x1x400x400 : Shape := ⟨4, ![1, 1, 400, 400]⟩
abbrev S1x3x400x400 : Shape := ⟨4, ![1, 3, 400, 400]⟩
abbrev S16x512 : Shape := ⟨2, ![16, 512]⟩
abbrev S1x512 : Shape := ⟨2, ![1, 512]⟩
abbrev S512 : Shape := ⟨1, ![512]⟩
abbrev S512x512 : Shape := ⟨2, ![512, 512]⟩
abbrev S512x1 : Shape := ⟨2, ![512, 1]⟩
abbrev S512x400 : Shape := ⟨2, ![512, 400]⟩
abbrev S400x400 : Shape := ⟨2, ![400, 400]⟩

abbrev nBuf : Space → Nat
  | .hbm => 13
  | .vmem => 16
  | .smem => 0
  | _ => 0

abbrev bufTy : (tb : Table) → Fin (tcTables nBuf tb) → BufTy
  | .hbm, ⟨0, _⟩ => ⟨S8x500x10, .f32⟩
  | .hbm, ⟨1, _⟩ => ⟨S8x32x400x400, .f32⟩
  | .hbm, ⟨2, _⟩ => ⟨S8x10x500, .f32⟩
  | .hbm, ⟨3, _⟩ => ⟨S_, .i32⟩
  | .hbm, ⟨4, _⟩ => ⟨S_, .f32⟩
  | .hbm, ⟨5, _⟩ => ⟨S8x16x512, .f32⟩
  | .hbm, ⟨6, _⟩ => ⟨S8x4x400x400, .f32⟩
  | .hbm, ⟨7, _⟩ => ⟨S8x2x400x400, .f32⟩
  | .hbm, ⟨8, _⟩ => ⟨S8x1x400x400, .f32⟩
  | .hbm, ⟨9, _⟩ => ⟨S8x3x400x400, .f32⟩
  | .hbm, ⟨10, _⟩ => ⟨S8x2x400x400, .f32⟩
  | .hbm, ⟨11, _⟩ => ⟨S8x2x400x400, .f32⟩
  | .hbm, ⟨12, _⟩ => ⟨S8x1x400x400, .f32⟩
  | .local _ .vmem, ⟨0, _⟩ => ⟨S1x16x512, .f32⟩
  | .local _ .vmem, ⟨1, _⟩ => ⟨S1x16x512, .f32⟩
  | .local _ .vmem, ⟨2, _⟩ => ⟨S1x4x400x400, .f32⟩
  | .local _ .vmem, ⟨3, _⟩ => ⟨S1x4x400x400, .f32⟩
  | .local _ .vmem, ⟨4, _⟩ => ⟨S1x2x400x400, .f32⟩
  | .local _ .vmem, ⟨5, _⟩ => ⟨S1x2x400x400, .f32⟩
  | .local _ .vmem, ⟨6, _⟩ => ⟨S1x1x400x400, .f32⟩
  | .local _ .vmem, ⟨7, _⟩ => ⟨S1x1x400x400, .f32⟩
  | .local _ .vmem, ⟨8, _⟩ => ⟨S1x3x400x400, .f32⟩
  | .local _ .vmem, ⟨9, _⟩ => ⟨S1x3x400x400, .f32⟩
  | .local _ .vmem, ⟨10, _⟩ => ⟨S1x2x400x400, .f32⟩
  | .local _ .vmem, ⟨11, _⟩ => ⟨S1x2x400x400, .f32⟩
  | .local _ .vmem, ⟨12, _⟩ => ⟨S1x2x400x400, .f32⟩
  | .local _ .vmem, ⟨13, _⟩ => ⟨S1x2x400x400, .f32⟩
  | .local _ .vmem, ⟨14, _⟩ => ⟨S1x1x400x400, .f32⟩
  | .local _ .vmem, ⟨15, _⟩ => ⟨S1x1x400x400, .f32⟩
  | _, _ => ⟨S8x500x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_3 : BitVec 32 := 0#32
  let v4 : BitVec 1 := Scalar.cmpi .ne v3 c0_i32_3
  v4

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x400x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x400x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x400x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x400x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x400x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x400x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x400x400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x500x10 : Shape := ⟨3, ![8, 500, 10]⟩
abbrev S8x32x400x400 : Shape := ⟨4, ![8, 32, 400, 400]⟩
abbrev S8x500x3 : Shape := ⟨3, ![8, 500, 3]⟩
abbrev S_ : Shape := ⟨0, ![]⟩
abbrev S8x500 : Shape := ⟨2, ![8, 500]⟩
abbrev S8x500x1 : Shape := ⟨3, ![8, 500, 1]⟩
abbrev S8x500x2 : Shape := ⟨3, ![8, 500, 2]⟩
abbrev S4000 : Shape := ⟨1, ![4000]⟩
abbrev S1280001 : Shape := ⟨1, ![1280001]⟩
abbrev S4000x1 : Shape := ⟨2, ![4000, 1]⟩
abbrev S1280000 : Shape := ⟨1, ![1280000]⟩
abbrev S8x160000 : Shape := ⟨2, ![8, 160000]⟩
abbrev S4000x10 : Shape := ⟨2, ![4000, 10]⟩
abbrev S8x160000x1 : Shape := ⟨3, ![8, 160000, 1]⟩
abbrev S8x160000x10 : Shape := ⟨3, ![8, 160000, 10]⟩
abbrev S8x10x160000 : Shape := ⟨3, ![8, 10, 160000]⟩
abbrev S8x10x400x400 : Shape := ⟨4, ![8, 10, 400, 400]⟩
abbrev S8x2x400x400 : Shape := ⟨4, ![8, 2, 400, 400]⟩
abbrev S8x1x400x400 : Shape := ⟨4, ![8, 1, 400, 400]⟩
abbrev S8x3x400x400 : Shape := ⟨4, ![8, 3, 400, 400]⟩
abbrev S8x4x400x400 : Shape := ⟨4, ![8, 4, 400, 400]⟩

abbrev nBuf : Space → Nat
  | .hbm => 142
  | .vmem => 0
  | .smem => 0
  | _ => 0

abbrev hbmTy0_0 (i : Nat) : BufTy := match i % 128 with
  | 0 => ⟨S8x500x10, .f32⟩
  | 1 => ⟨S8x32x400x400, .f32⟩
  | 2 => ⟨S8x500x3, .f32⟩
  | 3 => ⟨S8x500x3, .f32⟩
  | 4 => ⟨S_, .f32⟩
  | 5 => ⟨S8x500, .f32⟩
  | 6 => ⟨S_, .f32⟩
  | 7 => ⟨S8x500, .f32⟩
  | 8 => ⟨S8x500, .i1⟩
  | 9 => ⟨S8x500x1, .f32⟩
  | 10 => ⟨S8x500, .f32⟩
  | 11 => ⟨S8x500x1, .f32⟩
  | 12 => ⟨S8x500, .f32⟩
  | 13 => ⟨S8x500x1, .f32⟩
  | 14 => ⟨S8x500, .f32⟩
  | 15 => ⟨S8x500x1, .f32⟩
  | 16 => ⟨S8x500, .f32⟩
  | 17 => ⟨S8x500x1, .f32⟩
  | 18 => ⟨S8x500, .f32⟩
  | 19 => ⟨S8x500x1, .f32⟩
  | 20 => ⟨S8x500, .f32⟩
  | 21 => ⟨S8x500x1, .f32⟩
  | 22 => ⟨S8x500, .f32⟩
  | 23 => ⟨S8x500x2, .f32⟩
  | 24 => ⟨S_, .f32⟩
  | 25 => ⟨S8x500, .f32⟩
  | 26 => ⟨S8x500, .f32⟩
  | 27 => ⟨S_, .f32⟩
  | 28 => ⟨S8x500, .f32⟩
  | 29 => ⟨S8x500, .f32⟩
  | 30 => ⟨S_, .f32⟩
  | 31 => ⟨S8x500, .f32⟩
  | 32 => ⟨S8x500, .f32⟩
  | 33 => ⟨S_, .f32⟩
  | 34 => ⟨S8x500, .f32⟩
  | 35 => ⟨S8x500, .f32⟩
  | 36 => ⟨S8x500, .f32⟩
  | 37 => ⟨S8x500, .i32⟩
  | 38 => ⟨S8x500, .f32⟩
  | 39 => ⟨S8x500, .i32⟩
  | 40 => ⟨S8x500, .f32⟩
  | 41 => ⟨S8x500, .f32⟩
  | 42 => ⟨S8x500, .f32⟩
  | 43 => ⟨S8x500, .f32⟩
  | 44 => ⟨S_, .i32⟩
  | 45 => ⟨S8x500, .i32⟩
  | 46 => ⟨S8x500, .i1⟩
  | 47 => ⟨S_, .i32⟩
  | 48 => ⟨S8x500, .i32⟩
  | 49 => ⟨S8x500, .i1⟩
  | 50 => ⟨S8x500, .i1⟩
  | 51 => ⟨S_, .i32⟩
  | 52 => ⟨S8x500, .i32⟩
  | 53 => ⟨S8x500, .i1⟩
  | 54 => ⟨S8x500, .i1⟩
  | 55 => ⟨S_, .i32⟩
  | 56 => ⟨S8x500, .i32⟩
  | 57 => ⟨S8x500, .i1⟩
  | 58 => ⟨S8x500, .i1⟩
  | 59 => ⟨S8x500, .i1⟩
  | 60 => ⟨S8x500, .i32⟩
  | 61 => ⟨S8x500, .i32⟩
  | 62 => ⟨S_, .i32⟩
  | 63 => ⟨S8x500, .i32⟩
  | 64 => ⟨S8x500, .i32⟩
  | 65 => ⟨S_, .i32⟩
  | 66 => ⟨S8x500, .i32⟩
  | 67 => ⟨S8x500, .i32⟩
  | 68 => ⟨S8x500, .i32⟩
  | 69 => ⟨S8x500, .i32⟩
  | 70 => ⟨S_, .i32⟩
  | 71 => ⟨S_, .i32⟩
  | 72 => ⟨S8x500, .i32⟩
  | 73 => ⟨S8x500, .i32⟩
  | 74 => ⟨S4000, .i32⟩
  | 75 => ⟨S4000, .i32⟩
  | 76 => ⟨S_, .i32⟩
  | 77 => ⟨S1280001, .i32⟩
  | 78 => ⟨S4000x1, .i32⟩
  | 79 => ⟨S1280001, .i32⟩
  | 80 => ⟨S1280000, .i32⟩
  | 81 => ⟨S8x160000, .i32⟩
  | 82 => ⟨S_, .i32⟩
  | 83 => ⟨S8x160000, .i32⟩
  | 84 => ⟨S8x160000, .i1⟩
  | 85 => ⟨S_, .i32⟩
  | 86 => ⟨S_, .i32⟩
  | 87 => ⟨S_, .i32⟩
  | 88 => ⟨S8x160000, .i32⟩
  | 89 => ⟨S8x160000, .i32⟩
  | 90 => ⟨S_, .i32⟩
  | 91 => ⟨S8x160000, .i32⟩
  | 92 => ⟨S8x160000, .i32⟩
  | 93 => ⟨S8x160000, .i32⟩
  | 94 => ⟨S_, .i32⟩
  | 95 => ⟨S8x160000, .i32⟩
  | 96 => ⟨S8x160000, .i32⟩
  | 97 => ⟨S8x160000, .i32⟩
  | 98 => ⟨S8x500, .f32⟩
  | 99 => ⟨S8x500, .f32⟩
  | 100 => ⟨S8x500x1, .f32⟩
  | 101 => ⟨S8x500, .f32⟩
  | 102 => ⟨S8x500x1, .f32⟩
  | 103 => ⟨S8x500, .f32⟩
  | 104 => ⟨S8x500x1, .f32⟩
  | 105 => ⟨S8x500x1, .f32⟩
  | 106 => ⟨S8x500x1, .f32⟩
  | 107 => ⟨S8x500x1, .f32⟩
  | 108 => ⟨S8x500x1, .f32⟩
  | 109 => ⟨S8x500x1, .f32⟩
  | 110 => ⟨S8x500x1, .f32⟩
  | 111 => ⟨S8x500x1, .f32⟩
  | 112 => ⟨S8x500x1, .f32⟩
  | 113 => ⟨S8x500x1, .f32⟩
  | 114 => ⟨S8x500x10, .f32⟩
  | 115 => ⟨S4000x10, .f32⟩
  | 116 => ⟨S_, .i32⟩
  | 117 => ⟨S8x160000, .i32⟩
  | 118 => ⟨S8x160000, .i1⟩
  | 119 => ⟨S_, .i32⟩
  | 120 => ⟨S8x160000, .i32⟩
  | 121 => ⟨S8x160000, .i32⟩
  | 122 => ⟨S8x160000, .i32⟩
  | 123 => ⟨S8x160000x1, .i32⟩
  | 124 => ⟨S8x160000x10, .f32⟩
  | 125 => ⟨S8x160000x1, .i1⟩
  | 126 => ⟨S_, .f32⟩
  | 127 => ⟨S_, .f32⟩
  | _ => ⟨S8x500x10, .f32⟩

abbrev hbmTy0_1 (i : Nat) : BufTy := match i % 128 with
  | 0 => ⟨S8x160000x10, .i1⟩
  | 1 => ⟨S8x160000x10, .f32⟩
  | 2 => ⟨S8x160000x10, .f32⟩
  | 3 => ⟨S8x10x160000, .f32⟩
  | 4 => ⟨S8x10x400x400, .f32⟩
  | 5 => ⟨S8x2x400x400, .f32⟩
  | 6 => ⟨S8x1x400x400, .f32⟩
  | 7 => ⟨S8x3x400x400, .f32⟩
  | 8 => ⟨S8x2x400x400, .f32⟩
  | 9 => ⟨S8x2x400x400, .f32⟩
  | 10 => ⟨S8x160000, .f32⟩
  | 11 => ⟨S8x1x400x400, .f32⟩
  | 12 => ⟨S_, .f32⟩
  | 13 => ⟨S8x4x400x400, .f32⟩
  | _ => ⟨S8x500x10, .f32⟩

abbrev hbmTy (i : Nat) : BufTy := match i / 128 with
  | 0 => hbmTy0_0 i
  | 1 => hbmTy0_1 i
  | _ => ⟨S8x500x10, .f32⟩

abbrev bufTy : (tb : Table) → Fin (tcTables nBuf tb) → BufTy
  | .hbm, ⟨i, _⟩ => hbmTy i
  | _, _ => ⟨S8x500x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_8 : Ref sig .tc := ⟨.hbm, 62, rfl⟩
abbrev main_v50 : Ref sig .tc := ⟨.hbm, 63, rfl⟩
abbrev main_v51 : Ref sig .tc := ⟨.hbm, 64, rfl⟩
abbrev main_c_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_10 : Ref sig .tc := ⟨.hbm, 70, rfl⟩
abbrev main_call0_v0 : Ref sig .tc := ⟨.hbm, 71, rfl⟩
abbrev main_call0_v1 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_c_13 : Ref sig .tc := ⟨.hbm, 85, rfl⟩
abbrev main_c_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_16 : Ref sig .tc := ⟨.hbm, 116, rfl⟩
abbrev main_v89 : Ref sig .tc := ⟨.hbm, 117, rfl⟩
abbrev main_v90 : Ref sig .tc := ⟨.hbm, 118, rfl⟩
abbrev main_c_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_19 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== Proof.Spec.lean ====
/-
  The targets of one batch, without arrays: a box is its ten numbers, a box hits the cell whose row and column its centre falls in,
  and a cell takes its value from the last box that hits it.
-/
module

public import Idealize.ShloMosaic.Lib.Pointwise
public import Idealize.ShloMosaic.Lib.WordCmp

@[expose] public section

namespace Cert.Targets

open Idealize.ShloMosaic

/-- The ten numbers of a box. -/
abbrev Box : Type := Fin 10 → EReal

/-- The bit that says a box is no padding: the sizes of its first three numbers have a positive sum. -/
noncomputable def nonzeroBit (g : Box) : BitVec 1 :=
  BitVec.ofBool (decide (0 < FloatOps.absf (F := Ideal) (φ := .f32) (g 0) + FloatOps.absf (F := Ideal) (φ := .f32) (g 1)
    + FloatOps.absf (F := Ideal) (φ := .f32) (g 2)))

/-- The centre's first coordinate in cells. -/
noncomputable def posX (g : Box) : EReal := Ideal.div (g 0) (Ideal.ofBits FTy.f32 1036831949#32)

/-- The centre's second coordinate in cells. -/
noncomputable def posY (g : Box) : EReal := Ideal.div (g 1 - Ideal.ofBits FTy.f32 3256793170#32) (Ideal.ofBits FTy.f32 1036831949#32)

/-- The word of the cell's column. -/
noncomputable def wordX (g : Box) : BitVec 32 := FloatOps.fptosi (F := Ideal) (φ := .f32) 32 (Ideal.liftRound Int.floor (posX g))

/-- The word of the cell's row. -/
noncomputable def wordY (g : Box) : BitVec 32 := FloatOps.fptosi (F := Ideal) (φ := .f32) 32 (Ideal.liftRound Int.floor (posY g))

/-- The bit that says a box counts: it is no padding and its cell lies on the map. -/
noncomputable def validBit (g : Box) : BitVec 1 :=
  IntOp.andi (nonzeroBit g)
    (IntOp.andi
      (IntOp.andi (IntOp.andi (IntOp.cmpi .sge (wordX g) 0#32) (IntOp.cmpi .slt (wordX g) 400#32)) (IntOp.cmpi .sge (wordY g) 0#32))
      (IntOp.cmpi .slt (wordY g) 400#32))

/-- The ten numbers that a box offers to its cell. -/
noncomputable def feat (g : Box) : Fin 10 → EReal
  | 0 => posX g - FloatOps.sitofp (F := Ideal) FTy.f32 (wordX g)
  | 1 => posY g - FloatOps.sitofp (F := Ideal) FTy.f32 (wordY g)
  | 2 => g 2
  | 3 => g 3
  | 4 => g 4
  | 5 => g 5
  | 6 => Ideal.sin (g 6)
  | 7 => Ideal.cos (g 6)
  | 8 => g 8
  | 9 => g 9

/-- A box hits the cell at row `y` and column `x`. -/
def Hit (g : Box) (y x : Fin 400) : Prop :=
  validBit g = 1#1 ∧ wordY g = BitVec.ofNat 32 y.val ∧ wordX g = BitVec.ofNat 32 x.val

/-- Box `n` is the last of the list that hits the cell. -/
def Last {N : Nat} (boxes : Fin N → Box) (y x : Fin 400) (n : Fin N) : Prop :=
  Hit (boxes n) y x ∧ ∀ i, n < i → ¬ Hit (boxes i) y x

/-- Where some box hits a cell, one of them is the last. -/
theorem exists_last {N : Nat} (boxes : Fin N → Box) (y x : Fin 400) (h : ∃ n, Hit (boxes n) y x) : ∃ n, Last boxes y x n := by
  classical
  obtain ⟨k, hk⟩ := h
  obtain ⟨n, hn, hmax⟩ := Finset.exists_max_image (Finset.univ.filter fun n => Hit (boxes n) y x) id ⟨k, by simpa using hk⟩
  refine ⟨n, by simpa using hn, fun i hi hit => ?_⟩
  have := hmax i (by simpa using hit)
  exact absurd hi (not_lt.mpr this)

/-- Only one box of the list is the last that hits a cell. -/
theorem last_unique {N : Nat} {boxes : Fin N → Box} {y x : Fin 400} {n k : Fin N} (hn : Last boxes y x n) (hk : Last boxes y x k) : n = k := by
  rcases lt_trichotomy n k with h | h | h
  · exact absurd hk.1 (hn.2 k h)
  · exact h
  · exact absurd hn.1 (hk.2 n h)

open Classical in
/-- The value of a cell: what its last box offers, and zero where no box hits the cell. -/
noncomputable def cell {N : Nat} (boxes : Fin N → Box) (v : Box → EReal) (y x : Fin 400) : EReal :=
  ∑ n, if Last boxes y x n then v (boxes n) else 0

/-- A cell with a last box holds what that box offers. -/
theorem cell_of_last {N : Nat} {boxes : Fin N → Box} (v : Box → EReal) {y x : Fin 400} {n : Fin N} (h : Last boxes y x n) :
    cell boxes v y x = v (boxes n) := by
  unfold cell
  rw [Finset.sum_eq_single n, if_pos h]
  · intro k _ hk
    exact if_neg fun hl => hk (last_unique hl h)
  · intro hn
    exact absurd (Finset.mem_univ n) hn

/-- A cell that no box hits holds zero. -/
theorem cell_of_none {N : Nat} {boxes : Fin N → Box} (v : Box → EReal) {y x : Fin 400} (h : ∀ n, ¬ Hit (boxes n) y x) : cell boxes v y x = 0 :=
  Finset.sum_eq_zero fun n _ => if_neg fun hl => h n hl.1

/-- Boxes that hit no cell, added at the end of a list, change no cell. -/
theorem cell_extend {N K : Nat} {short : Fin N → Box} {long : Fin K → Box} (hNK : N ≤ K) (hsame : ∀ n : Fin N, long (Fin.castLE hNK n) = short n)
    (hrest : ∀ n : Fin K, N ≤ n.val → validBit (long n) ≠ 1#1) (v : Box → EReal) (y x : Fin 400) :
    cell long v y x = cell short v y x := by
  have cases : ∀ n : Fin K, Hit (long n) y x → ∃ i : Fin N, n = Fin.castLE hNK i := fun n hn => by
    by_cases hlt : n.val < N
    · exact ⟨⟨n.val, hlt⟩, rfl⟩
    · exact absurd hn.1 (hrest n (not_lt.mp hlt))
  by_cases h : ∃ n, Hit (short n) y x
  · obtain ⟨n, hn⟩ := exists_last short y x h
    have hl : Last long y x (Fin.castLE hNK n) := by
      refine ⟨by rw [hsame]; exact hn.1, fun i hi hit => ?_⟩
      obtain ⟨k, rfl⟩ := cases i hit
      rw [hsame] at hit
      exact hn.2 k hi hit
    rw [cell_of_last v hl, cell_of_last v hn, hsame]
  · rw [cell_of_none v fun n hn => h ⟨n, hn⟩, cell_of_none v fun n hn => ?_]
    obtain ⟨k, rfl⟩ := cases n hn
    rw [hsame] at hn
    exact h ⟨k, hn⟩

/-- What the bit of a box that counts says of its two words. -/
theorem validBit_bounds {g : Box} (h : validBit g = 1#1) : (wordX g).toNat < 400 ∧ (wordY g).toNat < 400 := by
  unfold validBit at h
  generalize nonzeroBit g = b at h
  generalize wordX g = p at h ⊢
  generalize wordY g = q at h ⊢
  rw [WordCmp.cmpi_sge_eq, WordCmp.cmpi_sge_eq, WordCmp.cmpi_slt_eq, WordCmp.cmpi_slt_eq, WordCmp.andi_ofBool, WordCmp.andi_ofBool,
    WordCmp.andi_ofBool] at h
  have hb : b = 1#1 ∨ b = 0#1 := by
    rcases BitVec.eq_zero_or_eq_one b with e | e
    · exact Or.inr e
    · exact Or.inl e
  rcases hb with rfl | rfl
  · have t : ∀ c : Bool, IntOp.andi 1#1 (BitVec.ofBool c) = BitVec.ofBool c := fun c => by cases c <;> decide
    rw [t, WordCmp.ofBool_eq_one_iff] at h
    simp only [Bool.and_eq_true, decide_eq_true_eq] at h
    obtain ⟨⟨⟨h1, h2⟩, h3⟩, h4⟩ := h
    have e0 : (0#32 : BitVec 32).toInt = 0 := rfl
    have e4 : (400#32 : BitVec 32).toInt = 400 := rfl
    rw [e0] at h1 h3
    rw [e4] at h2 h4
    rw [BitVec.toInt_eq_toNat_cond] at h1 h2 h3 h4
    have hp := p.isLt
    have hq := q.isLt
    constructor <;> split_ifs at * <;> omega
  · have t : ∀ c : Bool, IntOp.andi 0#1 (BitVec.ofBool c) = 0#1 := fun c => by cases c <;> decide
    rw [t] at h
    exact absurd h (by decide)

/-- A box of zeros does not count. -/
theorem validBit_zero : validBit (fun _ => 0) ≠ 1#1 := by
  have h0 : nonzeroBit (fun _ => 0) = 0#1 := by
    unfold nonzeroBit
    have e : FloatOps.absf (F := Ideal) (φ := .f32) (0 : EReal) = (0 : EReal) := by
      show max (0 : EReal) (-0) = 0
      simp
    rw [e]
    simp
  unfold validBit
  rw [h0]
  intro h
  generalize IntOp.andi (IntOp.andi (IntOp.andi _ _) _) _ = b at h
  rcases BitVec.eq_zero_or_eq_one b with rfl | rfl
  · exact absurd h (by decide)
  · exact absurd h (by decide)

end Cert.Targets
-- ==== Proof.Scatter.lean ====
/-
  The kernel's way to write a cell, on scalars: a box survives when it counts and no later box has its cell's number; a row mask, the
  box's value and a column mask are multiplied, and the sum of the products over the boxes is the cell's value.
-/
module

public import proofs.«01_k».proof.Proof.Spec

@[expose] public section

namespace Cert.Targets

open Idealize.ShloMosaic

/-- The number of a box's cell, and the number past the map for a box that does not count. -/
noncomputable def cellNumber (g : Box) : BitVec 32 :=
  Scalar.select (validBit g) (IntOp.addi (IntOp.muli (wordY g) 400#32) (wordX g)) 160000#32

/-- The largest, over the boxes, of 1 where the box is later than box `n` and has its number, and of 0 elsewhere. -/
noncomputable def laterSame {N : Nat} (boxes : Fin N → Box) (n : Fin N) : EReal :=
  Finset.fold max (Ideal.ofBits FTy.f32 4286578688#32)
    (fun i => Scalar.select
      (IntOp.andi (IntOp.cmpi .eq (cellNumber (boxes n)) (cellNumber (boxes i))) (IntOp.cmpi .sgt (BitVec.ofNat 32 i.val) (BitVec.ofNat 32 n.val)))
      (1 : EReal) 0) Finset.univ

/-- The row mask at a box and a row. -/
noncomputable def rowMask {N : Nat} (boxes : Fin N → Box) (n : Fin N) (y : Fin 400) : EReal :=
  Scalar.select (IntOp.cmpi .eq (wordY (boxes n)) (BitVec.ofNat 32 y.val))
    (FloatOps.sitofp (F := Ideal) FTy.f32
      (BitVec.setWidth 32 (IntOp.andi (validBit (boxes n)) (IntOp.xori (BitVec.ofBool (decide (0 < laterSame boxes n))) 1#1)))) 0

/-- The column mask at a box and a column. -/
noncomputable def columnMask (g : Box) (x : Fin 400) : EReal :=
  FloatOps.sitofp (F := Ideal) FTy.f32 (BitVec.setWidth 32 (IntOp.cmpi .eq (wordX g) (BitVec.ofNat 32 x.val)))

/-- A bit widened and read as a number. -/
theorem bit_number (p : Prop) [Decidable p] :
    FloatOps.sitofp (F := Ideal) FTy.f32 (BitVec.setWidth 32 (BitVec.ofBool (decide p))) = if p then (1 : EReal) else 0 := by
  have h1 : FloatOps.sitofp (F := Ideal) FTy.f32 (1#32) = (1 : EReal) := by
    show (((1#32 : BitVec 32).toInt : ℝ) : EReal) = 1
    norm_num
  have h0 : FloatOps.sitofp (F := Ideal) FTy.f32 (0#32) = (0 : EReal) := by
    show (((0#32 : BitVec 32).toInt : ℝ) : EReal) = 0
    norm_num
  by_cases h : p
  · rw [if_pos h, decide_eq_true h]; exact h1
  · rw [if_neg h, decide_eq_false h]; exact h0

/-- The column mask is 1 at the column of the box's cell and 0 elsewhere. -/
theorem columnMask_eq (g : Box) (x : Fin 400) : columnMask g x = if wordX g = BitVec.ofNat 32 x.val then (1 : EReal) else 0 := by
  unfold columnMask
  rw [WordCmp.cmpi_eq_eq]
  exact bit_number _

/-- The numbers of two boxes that count are equal only where their cells are. -/
theorem cellNumber_inj {g h : Box} (hg : validBit g = 1#1) (e : cellNumber g = cellNumber h) :
    validBit h = 1#1 ∧ wordY h = wordY g ∧ wordX h = wordX g := by
  obtain ⟨gx, gy⟩ := validBit_bounds hg
  have num : ∀ k : Box, (wordX k).toNat < 400 → (wordY k).toNat < 400 →
      (IntOp.addi (IntOp.muli (wordY k) 400#32) (wordX k)).toNat = (wordY k).toNat * 400 + (wordX k).toNat := fun k hx hy => by
    show (wordY k * 400#32 + wordX k).toNat = _
    rw [BitVec.toNat_add, BitVec.toNat_mul, show (400#32 : BitVec 32).toNat = 400 from rfl]
    omega
  have eg : cellNumber g = IntOp.addi (IntOp.muli (wordY g) 400#32) (wordX g) := by
    unfold cellNumber; rw [hg]; rfl
  have hv : validBit h = 1#1 := by
    rcases BitVec.eq_zero_or_eq_one (validBit h) with h0 | h1
    · have eh : cellNumber h = 160000#32 := by unfold cellNumber; rw [h0]; rfl
      rw [eg, eh] at e
      have := congrArg BitVec.toNat e
      rw [num g gx gy, show (160000#32 : BitVec 32).toNat = 160000 from rfl] at this
      omega
    · exact h1
  obtain ⟨hx, hy⟩ := validBit_bounds hv
  have eh : cellNumber h = IntOp.addi (IntOp.muli (wordY h) 400#32) (wordX h) := by
    unfold cellNumber; rw [hv]; rfl
  rw [eg, eh] at e
  have e' := congrArg BitVec.toNat e
  rw [num g gx gy, num h hx hy] at e'
  refine ⟨hv, BitVec.eq_of_toNat_eq ?_, BitVec.eq_of_toNat_eq ?_⟩ <;> omega

/-- The largest of the marks is positive exactly where a later box has the number. -/
theorem laterSame_pos {N : Nat} (hN : N < 2 ^ 31) (boxes : Fin N → Box) (n : Fin N) :
    0 < laterSame boxes n ↔ ∃ i, n < i ∧ cellNumber (boxes n) = cellNumber (boxes i) := by
  have hbot : Ideal.ofBits FTy.f32 4286578688#32 = (⊥ : EReal) := by
    show Ideal.ieee 8 23 (4286578688#32) = ⊥
    unfold Ideal.ieee
    simp
  unfold laterSame
  rw [hbot, Finset.lt_fold_max]
  constructor
  · rintro (h | ⟨i, _, hi⟩)
    · exact absurd h (by simp)
    · refine ⟨i, ?_⟩
      rw [WordCmp.cmpi_eq_eq, WordCmp.cmpi_sgt_ofNat (by have := i.isLt; omega) (by have := n.isLt; omega), WordCmp.andi_ofBool] at hi
      by_contra hc
      have hf : (decide (cellNumber (boxes n) = cellNumber (boxes i)) && decide (n.val < i.val)) = false := by
        rw [Bool.and_eq_false_iff, decide_eq_false_iff_not, decide_eq_false_iff_not]
        by_cases h1 : cellNumber (boxes n) = cellNumber (boxes i)
        · exact Or.inr fun h2 => hc ⟨h2, h1⟩
        · exact Or.inl h1
      rw [hf] at hi
      exact absurd hi (lt_irrefl (0 : EReal))
  · rintro ⟨i, hlt, he⟩
    refine Or.inr ⟨i, Finset.mem_univ i, ?_⟩
    rw [WordCmp.cmpi_eq_eq, WordCmp.cmpi_sgt_ofNat (by have := i.isLt; omega) (by have := n.isLt; omega), WordCmp.andi_ofBool,
      decide_eq_true he, decide_eq_true (show n.val < i.val from hlt)]
    exact zero_lt_one

open Classical in
/-- The row mask is 1 at the row of the cell of a surviving box and 0 elsewhere. -/
theorem rowMask_eq {N : Nat} (hN : N < 2 ^ 31) (boxes : Fin N → Box) (n : Fin N) (y : Fin 400) :
    rowMask boxes n y = if wordY (boxes n) = BitVec.ofNat 32 y.val ∧ validBit (boxes n) = 1#1
      ∧ ∀ i, n < i → cellNumber (boxes n) ≠ cellNumber (boxes i) then (1 : EReal) else 0 := by
  unfold rowMask
  rw [WordCmp.cmpi_eq_eq]
  by_cases hy : wordY (boxes n) = BitVec.ofNat 32 y.val
  · rw [decide_eq_true hy]
    show FloatOps.sitofp (F := Ideal) FTy.f32 _ = _
    have hb : IntOp.andi (validBit (boxes n)) (IntOp.xori (BitVec.ofBool (decide (0 < laterSame boxes n))) 1#1)
        = BitVec.ofBool (decide (validBit (boxes n) = 1#1 ∧ ¬ 0 < laterSame boxes n)) := by
      rcases BitVec.eq_zero_or_eq_one (validBit (boxes n)) with h | h <;> rw [h] <;>
        by_cases hl : 0 < laterSame boxes n <;> simp only [hl] <;> decide
    rw [hb, bit_number]
    refine if_congr ?_ rfl rfl
    rw [laterSame_pos hN]
    constructor
    · exact fun ⟨h1, h2⟩ => ⟨hy, h1, fun i hi he => h2 ⟨i, hi, he⟩⟩
    · exact fun ⟨_, h1, h2⟩ => ⟨h1, fun ⟨i, hi, he⟩ => h2 i hi he⟩
  · rw [decide_eq_false hy, if_neg fun h => hy h.1]
    rfl

/-- The product of the two masks and a box's value is that value at the cell whose last box it is, and zero elsewhere. -/
theorem mask_product {N : Nat} (hN : N < 2 ^ 31) (boxes : Fin N → Box) (n : Fin N) (y x : Fin 400) (a : EReal) [Decidable (Last boxes y x n)] :
    rowMask boxes n y * a * columnMask (boxes n) x = if Last boxes y x n then a else 0 := by
  classical
  rw [rowMask_eq hN, columnMask_eq]
  by_cases hl : Last boxes y x n
  · obtain ⟨⟨hv, hy, hx⟩, hlast⟩ := hl
    have hs : ∀ i, n < i → cellNumber (boxes n) ≠ cellNumber (boxes i) := fun i hi he => by
      obtain ⟨v', y', x'⟩ := cellNumber_inj hv he
      exact hlast i hi ⟨v', y'.trans hy, x'.trans hx⟩
    rw [if_pos ⟨hy, hv, hs⟩, if_pos hx, if_pos ⟨⟨hv, hy, hx⟩, hlast⟩, one_mul, mul_one]
  · rw [if_neg hl]
    by_cases hx : wordX (boxes n) = BitVec.ofNat 32 x.val
    · rw [if_neg, zero_mul, zero_mul]
      rintro ⟨hy, hv, hs⟩
      refine hl ⟨⟨hv, hy, hx⟩, fun i hi hit => hs i hi ?_⟩
      unfold cellNumber
      rw [hv, hit.1, hy, hx, hit.2.1, hit.2.2]
    · rw [if_neg hx, mul_zero]

/-- The sum of the products over the boxes is the cell's value. -/
theorem sum_mask_product {N : Nat} (hN : N < 2 ^ 31) (boxes : Fin N → Box) (v : Box → EReal) (y x : Fin 400) :
    ∑ n, rowMask boxes n y * v (boxes n) * columnMask (boxes n) x = cell boxes v y x := by
  classical
  unfold cell
  exact Finset.sum_congr rfl fun n _ => mask_product hN boxes n y x _

/-- The sum of the products of the two masks alone is the value of a cell to which every box offers 1. -/
theorem sum_mask {N : Nat} (hN : N < 2 ^ 31) (boxes : Fin N → Box) (y x : Fin 400) :
    ∑ n, rowMask boxes n y * columnMask (boxes n) x = cell boxes (fun _ => 1) y x := by
  rw [← sum_mask_product hN]
  exact Finset.sum_congr rfl fun n _ => by rw [mul_one]

end Cert.Targets
-- ==== Proof.KernelBlock.lean ====
/-
  What the kernel's body stores at one grid point, read at an element: each stored plane is the map of one of the ten numbers over the
  512 boxes of the point's block, and the mask's plane is the map of the number 1.
-/
module

public import proofs.«01_k».proof.Proof.Scatter
public import proofs.«01_k».proof.Proof.Gen.KernelIdeal.Skeleton

@[expose] public section

set_option maxRecDepth 16384

namespace Cert.Targets.Kernel

open Idealize.ShloMosaic Cert.KernelIdeal Cert.KernelIdeal.Gen

/-- Box `n` of a block of boxes: its ten numbers are the block's first ten rows. -/
def blockBox (X : Vec Ideal S1x16x512 .f32) (n : Fin 512) : Box := fun f => X (ix3 0 (Fin.castLE (by decide) f) n)

variable (X : Vec Ideal S1x16x512 .f32)

/-- The row masks as the body computes them. -/
noncomputable abbrev rows : FVec Ideal S512x400 .f32 :=
  k0_pay23 (F := Ideal) (k0_pay14 X) (k0_pay17 X) (k0_pay18 X) (k0_pay21 X) k0_pay22

/-- The column masks as the body computes them. -/
noncomputable abbrev columns : FVec Ideal S512x400 .f32 := k0_pay24 (F := Ideal) (k0_pay17 X)

/-- The kernel's test that a box's centre is not at the origin. -/
theorem nonzero_at (n : Fin 512) : k0_pay14 X (ix1 n) = nonzeroBit (blockBox X n) := by
  pointwise [k0_pay14, k0_pay5, k0_pay6, k0_pay7, k0_pay4]
  rfl

/-- The kernel's position of a box on the grid, along x. -/
theorem posX_at (n : Fin 512) : k0_pay15 X (ix1 n) = posX (blockBox X n) := by
  pointwise [k0_pay15, k0_pay5, k0_pay4]
  rfl

/-- The kernel's position of a box on the grid, along y. -/
theorem posY_at (n : Fin 512) : k0_pay16 X (ix1 n) = posY (blockBox X n) := by
  pointwise [k0_pay16, k0_pay6, k0_pay4]
  rfl

/-- The kernel's cell index of a box, along x. -/
theorem wordX_at (n : Fin 512) : k0_pay17 X (ix1 n) = wordX (blockBox X n) := by
  pointwise [k0_pay17]
  rw [posX_at]
  rfl

/-- The kernel's cell index of a box, along y. -/
theorem wordY_at (n : Fin 512) : k0_pay18 X (ix1 n) = wordY (blockBox X n) := by
  pointwise [k0_pay18]
  rw [posY_at]
  rfl

/-- The row masks at an element. -/
theorem rows_at (n : Fin 512) (y : Fin 400) : rows X (ix2 n y) = rowMask (blockBox X) n y := by
  pointwise [rows, k0_pay23, k0_pay21, k0_pay22]
  simp only [wordX_at, wordY_at, nonzero_at]
  rfl

/-- The column masks at an element. -/
theorem columns_at (n : Fin 512) (x : Fin 400) : columns X (ix2 n x) = columnMask (blockBox X n) x := by
  pointwise [columns, k0_pay24]
  simp only [wordX_at]
  rfl

/-- The mask's plane. -/
theorem mask_at (y x : Fin 400) :
    k0_pay26 (k0_pay25 (F := Ideal) (k0_pay14 X) (k0_pay17 X) (k0_pay18 X) (k0_pay21 X) k0_pay22) (ix4 0 0 y x)
      = cell (blockBox X) (fun _ => 1) y x := by
  pointwise [k0_pay26, k0_pay25]
  simp only [rows_at, columns_at]
  exact sum_mask (by decide) _ y x

/-- The sum that each of the other planes holds at an element. -/
theorem plane_at (f : Fin 10) (v : FVec Ideal S512 .f32) (hv : ∀ n, v (ix1 n) = feat (blockBox X n) f) (y x : Fin 400) :
    ∑ n : Fin 512, rows X (ix2 n y) * v (ix1 n) * columns X (ix2 n x) = cell (blockBox X) (fun g => feat g f) y x := by
  simp only [rows_at, columns_at, hv]
  exact sum_mask_product (by decide) _ (fun g => feat g f) y x

/-- Plane 0 of a block: at each cell, the sum over the boxes that count there of feature 0. -/
theorem plane0_at (y x : Fin 400) : k0_pay27 (k0_pay19 X) (rows X) (columns X) (ix4 0 0 y x) = cell (blockBox X) (fun g => feat g 0) y x := by
  pointwise [k0_pay27]
  refine plane_at X 0 (k0_pay19 X) (fun n => ?_) y x
  pointwise [k0_pay19]
  rw [posX_at, wordX_at]
  rfl

/-- Plane 1 of a block: at each cell, the sum over the boxes that count there of feature 1. -/
theorem plane1_at (y x : Fin 400) : k0_pay28 (k0_pay20 X) (rows X) (columns X) (ix4 0 0 y x) = cell (blockBox X) (fun g => feat g 1) y x := by
  pointwise [k0_pay28]
  refine plane_at X 1 (k0_pay20 X) (fun n => ?_) y x
  pointwise [k0_pay20]
  rw [posY_at, wordY_at]
  rfl

/-- Plane 2 of a block: at each cell, the sum over the boxes that count there of feature 2. -/
theorem plane2_at (y x : Fin 400) : k0_pay29 (k0_pay7 X) (rows X) (columns X) (ix4 0 0 y x) = cell (blockBox X) (fun g => feat g 2) y x := by
  pointwise [k0_pay29]
  refine plane_at X 2 (k0_pay7 X) (fun n => ?_) y x
  pointwise [k0_pay7, k0_pay4]
  rfl

/-- Plane 3 of a block: at each cell, the sum over the boxes that count there of feature 3. -/
theorem plane3_at (y x : Fin 400) : k0_pay30 (k0_pay8 X) (rows X) (columns X) (ix4 0 0 y x) = cell (blockBox X) (fun g => feat g 3) y x := by
  pointwise [k0_pay30]
  refine plane_at X 3 (k0_pay8 X) (fun n => ?_) y x
  pointwise [k0_pay8, k0_pay4]
  rfl

/-- Plane 4 of a block: at each cell, the sum over the boxes that count there of feature 4. -/
theorem plane4_at (y x : Fin 400) :
    k0_pay32 (columns X) (k0_pay31 (k0_pay9 X) (rows X)) (constant S400x400 .f32 0x00000000#32) (ix4 0 0 y x)
      = cell (blockBox X) (fun g => feat g 4) y x := by
  pointwise [k0_pay32, k0_pay31]
  refine plane_at X 4 (k0_pay9 X) (fun n => ?_) y x
  pointwise [k0_pay9, k0_pay4]
  rfl

/-- Plane 5 of a block: at each cell, the sum over the boxes that count there of feature 5. -/
theorem plane5_at (y x : Fin 400) : k0_pay33 (k0_pay10 X) (rows X) (columns X) (ix4 0 0 y x) = cell (blockBox X) (fun g => feat g 5) y x := by
  pointwise [k0_pay33]
  refine plane_at X 5 (k0_pay10 X) (fun n => ?_) y x
  pointwise [k0_pay10, k0_pay4]
  rfl

/-- Plane 6 of a block: at each cell, the sum over the boxes that count there of feature 6. -/
theorem plane6_at (y x : Fin 400) : k0_pay34 (k0_pay11 X) (rows X) (columns X) (ix4 0 0 y x) = cell (blockBox X) (fun g => feat g 6) y x := by
  pointwise [k0_pay34]
  refine plane_at X 6 (sin (k0_pay11 X)) (fun n => ?_) y x
  pointwise [k0_pay11, k0_pay4]
  rfl

/-- Plane 7 of a block: at each cell, the sum over the boxes that count there of feature 7. -/
theorem plane7_at (y x : Fin 400) : k0_pay35 (k0_pay11 X) (rows X) (columns X) (ix4 0 0 y x) = cell (blockBox X) (fun g => feat g 7) y x := by
  pointwise [k0_pay35]
  refine plane_at X 7 (cos (k0_pay11 X)) (fun n => ?_) y x
  pointwise [k0_pay11, k0_pay4]
  rfl

/-- Plane 8 of a block: at each cell, the sum over the boxes that count there of feature 8. -/
theorem plane8_at (y x : Fin 400) :
    k0_pay2 (k0_pay36 (k0_pay12 X) (rows X) (columns X)) (ix4 0 0 y x) = cell (blockBox X) (fun g => feat g 8) y x := by
  pointwise [k0_pay2, k0_pay36]
  refine plane_at X 8 (k0_pay12 X) (fun n => ?_) y x
  pointwise [k0_pay12, k0_pay4]
  rfl

/-- Plane 9 of a block: at each cell, the sum over the boxes that count there of feature 9. -/
theorem plane9_at (y x : Fin 400) : k0_pay3 (k0_pay13 X) (rows X) (columns X) (ix4 0 0 y x) = cell (blockBox X) (fun g => feat g 9) y x := by
  pointwise [k0_pay3]
  refine plane_at X 9 (k0_pay13 X) (fun n => ?_) y x
  pointwise [k0_pay13, k0_pay4]
  rfl

end Cert.Targets.Kernel
-- ==== Proof.Maps.lean ====
/-
  The maps of a batch of boxes as arrays: what both programs return, over the elements of the array of boxes.
-/
module

public import proofs.«01_k».proof.Proof.Spec

@[expose] public section

namespace Cert.Targets

open Idealize.ShloMosaic

/-- The boxes of batch element `b`, as their ten numbers. -/
def boxesOf (A : FVec Ideal ⟨3, ![8, 500, 10]⟩ .f32) (b : Fin 8) (n : Fin 500) : Box := fun f => A (ix3 b n f)

/-- The stack of `C` maps that starts with the map of number `off`: at each batch element, number and cell, what the last box there holds. -/
noncomputable def maps (A : FVec Ideal ⟨3, ![8, 500, 10]⟩ .f32) (C off : ℕ) (h : off + C ≤ 10) : FVec Ideal ⟨4, ![8, C, 400, 400]⟩ .f32 :=
  fun i => cell (boxesOf A (i 0)) (fun g => feat g ⟨off + (i 1).val, lt_of_lt_of_le (Nat.add_lt_add_left (i 1).isLt off) h⟩) (i 2) (i 3)

/-- The mask: 1 at a cell that some box hits, and 0 elsewhere. -/
noncomputable def maskMap (A : FVec Ideal ⟨3, ![8, 500, 10]⟩ .f32) : FVec Ideal ⟨4, ![8, 1, 400, 400]⟩ .f32 :=
  fun i => cell (boxesOf A (i 0)) (fun _ => 1) (i 2) (i 3)

end Cert.Targets
-- ==== Proof.KernelArray.lean ====
/-
  The kernel's output arrays after its run, as the maps of the array of boxes.
-/
module

public import proofs.«01_k».proof.Proof.KernelBlock
public import proofs.«01_k».proof.Proof.Maps
public import proofs.«01_k».proof.Proof.Gen.KernelIdeal.Value
public import Idealize.ShloMosaic.Lib.Pipeline.ValueKit
public import Idealize.ShloMosaic.Lib.StableHlo.ReadAt

@[expose] public section

set_option maxRecDepth 16384

namespace Cert.Targets.Kernel

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-- The array of boxes that a run starts with. -/
abbrev argBoxes (c : Dev nD) : FVec Ideal S8x500x10 .f32 := m ((c.tc : Thread nD τ).loc main_arg0)

/-- The array that the kernel's blocks are cut from: the boxes with their numbers as rows, and zeros beyond the 10 numbers and the
    500 boxes. -/
theorem padded_at (c : Dev nD) (b : Fin 8) (f : Fin 16) (n : Fin 512) :
    V m c main_v1 (ix3 b f n) = if h : f.val < 10 ∧ n.val < 500 then argBoxes m c (ix3 b ⟨n.val, h.2⟩ ⟨f.val, h.1⟩) else (0 : EReal) := by
  unfold V
  after_reads_at
  split
  · rfl
  · simp [FloatOps.sitofp]

/-- From the second point on, every window but the first output's stands at the block of the batch element before the point. -/
theorem indexes : ∀ t : Fin cfg0.N, 1 ≤ t.val → win0_0.index t = ![t.val - 1, 0, 0] ∧ win0_2.index t = ![t.val - 1, 0, 0, 0]
    ∧ win0_3.index t = ![t.val - 1, 0, 0, 0] ∧ win0_4.index t = ![t.val - 1, 0, 0, 0] ∧ win0_5.index t = ![t.val - 1, 0, 0, 0]
    ∧ win0_6.index t = ![t.val - 1, 0, 0, 0] ∧ win0_7.index t = ![t.val - 1, 0, 0, 0] := by decide +kernel

/-- The batch element that point `t` computes. -/
def batch (t : Fin cfg0.N) (h : 1 ≤ t.val) : Fin 8 :=
  ⟨t.val - 1, by have := t.isLt; have : cfg0.N = 9 := rfl; omega⟩

/-- The block of boxes at point `t`. -/
theorem block_at (c : Dev nD) (t : Fin cfg0.N) (h : 1 ≤ t.val) (f : Fin 16) (n : Fin 512) :
    iblk m c 0 t (ix3 0 f n) = V m c main_v1 (ix3 (batch t h) f n) := by
  have e := (indexes t h).1
  unfold batch
  blk_ext [iblk, e]

/-- A map over the 512 boxes of the block at point `t` is the map over the 500 boxes of the point's batch element: the boxes that the
    padding adds are all zero, and such a box hits no cell. -/
theorem block_cell (c : Dev nD) (t : Fin cfg0.N) (h : 1 ≤ t.val) (v : Box → EReal) (y x : Fin 400) :
    cell (blockBox (iblk m c 0 t)) v y x = cell (boxesOf (argBoxes m c) (batch t h)) v y x := by
  refine cell_extend (by decide) (fun n => ?_) (fun n hn => ?_) v y x
  · funext f
    show iblk m c 0 t (ix3 0 _ _) = _
    rw [block_at m c t h, padded_at, dif_pos ⟨f.isLt, n.isLt⟩]
    rfl
  · have e : blockBox (iblk m c 0 t) n = fun _ => 0 := by
      funext f
      show iblk m c 0 t (ix3 0 _ _) = _
      rw [block_at m c t h, padded_at, dif_neg fun hh => absurd hh.2 (not_lt.mpr hn)]
    rw [e]
    exact validBit_zero

/-- A stored plane that holds a map over its block, at a place of it: the map over the point's batch element at the place's row and column. -/
theorem plane_cell (c : Dev nD) (t : Fin cfg0.N) (h : 1 ≤ t.val) (v : Box → EReal) (p : Vec Ideal S1x1x400x400 .f32)
    (hp : ∀ y x, p (ix4 0 0 y x) = cell (blockBox (iblk m c 0 t)) v y x) (j : S1x1x400x400.Idx) (b : Fin 8) (y x : Fin 400)
    (h0 : b.val = t.val - 1) (h2 : y.val = (j 2).val) (h3 : x.val = (j 3).val) :
    p j = cell (boxesOf (argBoxes m c) b) v y x := by
  have hj : j = (ix4 0 0 y x : S1x1x400x400.Idx) := by blk_ext []
  have e0 : b = batch t h := Fin.ext h0
  rw [hj, hp, block_cell m c t h, e0]

/-- The same for the plane of number `off + k`, as an element of a stack of maps. -/
theorem plane_maps (c : Dev nD) (t : Fin cfg0.N) (h : 1 ≤ t.val) (f : Fin 10) (p : Vec Ideal S1x1x400x400 .f32)
    (hp : ∀ y x, p (ix4 0 0 y x) = cell (blockBox (iblk m c 0 t)) (fun g => feat g f) y x) (C off k : ℕ) (hC : off + C ≤ 10)
    (hf : off + k = f.val) (j : S1x1x400x400.Idx) (i : (⟨4, ![8, C, 400, 400]⟩ : Shape).Idx) (h0 : (i 0).val = t.val - 1)
    (h1 : (i 1).val = k) (h2 : (i 2).val = (j 2).val) (h3 : (i 3).val = (j 3).val) : p j = maps (argBoxes m c) C off hC i := by
  have ef : (⟨off + (i 1).val, lt_of_lt_of_le (Nat.add_lt_add_left (i 1).isLt off) hC⟩ : Fin 10) = f := Fin.ext ((congrArg (off + ·) h1).trans hf)
  unfold maps
  rw [ef]
  exact plane_cell m c t h _ p hp j _ _ _ h0 h2 h3

/-- A window's block is written back only from the second point on, where the first point writes no block back. -/
theorem one_le_of_flush {w : Fin cfg0.W} (hA : ∀ t : Fin cfg0.N, ¬cond0_0 (grid0.coords t) → (cfg0.win w).flush t = false) {t : Fin cfg0.N}
    (hf : (cfg0.win w).flush t = true) : 1 ≤ t.val := by
  by_contra h
  exact absurd hf (by rw [hA t fun hc => h ((hcond0_0 t).mp hc)]; decide)

/-- The first output: zero everywhere. -/
theorem heatmap (c : Dev nD) : (dats m 0 c).arrAt 1 cfg0.N = fun _ => (0 : EReal) := by
  refine (dats m 0 c).arrAt_eq_of_covers 1 _ (by decide +kernel) fun t hf y => ?_
  have hz : ∀ j, k0_pay1 (F := Ideal) j = (0 : EReal) := fun j => by pointwise [k0_pay1]
  rw [after0_1]
  by_cases h : 1 ≤ t.val
  · rw [outsAt0_B m c t h]
    frame_out
    exact hz y
  · rw [outsAt0_A m c t h]
    frame_out
    exact hz y

/-- Output window 2: the maps of numbers 0 and 1: the centre within its cell. -/
theorem offsets (c : Dev nD) : (dats m 0 c).arrAt 2 cfg0.N = maps (argBoxes m c) 2 0 (by decide) := by
  refine (dats m 0 c).arrAt_eq_of_covers 2 _ (by decide +kernel) fun t hf y => ?_
  have h := one_le_of_flush noFlush0_2_A hf
  have e := (indexes t h).2.1
  rw [after0_2, outsAt0_B m c t h]
  frame_out
  canon_tiles x h
  · refine plane_maps m c t h 1 _ (plane1_at _) 2 0 1 _ rfl x _ ?_ ?_ ?_ ?_ <;> blk_simp [e]
    exacts [h1.trans (by omega), h2, h3]
  · refine plane_maps m c t h 0 _ (plane0_at _) 2 0 0 _ rfl x _ ?_ ?_ ?_ ?_ <;> blk_simp [e]
    exacts [h1.trans (by omega), h2, h3]

/-- Output window 3: the map of number 2. -/
theorem heights (c : Dev nD) : (dats m 0 c).arrAt 3 cfg0.N = maps (argBoxes m c) 1 2 (by decide) := by
  refine (dats m 0 c).arrAt_eq_of_covers 3 _ (by decide +kernel) fun t hf y => ?_
  have h := one_le_of_flush noFlush0_3_A hf
  have e := (indexes t h).2.2.1
  rw [after0_3, outsAt0_B m c t h]
  frame_out
  refine plane_maps m c t h 2 _ (plane2_at _) 1 2 0 _ rfl y _ ?_ ?_ ?_ ?_ <;> blk_simp [e]

/-- Output window 4: the maps of numbers 3 to 5. -/
theorem sizes (c : Dev nD) : (dats m 0 c).arrAt 4 cfg0.N = maps (argBoxes m c) 3 3 (by decide) := by
  refine (dats m 0 c).arrAt_eq_of_covers 4 _ (by decide +kernel) fun t hf y => ?_
  have h := one_le_of_flush noFlush0_4_A hf
  have e := (indexes t h).2.2.2.1
  rw [after0_4, outsAt0_B m c t h]
  frame_out
  canon_tiles x h
  · refine plane_maps m c t h 5 _ (plane5_at _) 3 3 2 _ rfl x _ ?_ ?_ ?_ ?_ <;> blk_simp [e]
    exacts [h1.trans (by omega), h2, h3]
  · refine plane_maps m c t h 4 _ (plane4_at _) 3 3 1 _ rfl x _ ?_ ?_ ?_ ?_ <;> blk_simp [e]
    exacts [h1.trans (by omega), h2, h3]
  · refine plane_maps m c t h 3 _ (plane3_at _) 3 3 0 _ rfl x _ ?_ ?_ ?_ ?_ <;> blk_simp [e]
    exacts [h1.trans (by omega), h2, h3]

/-- Output window 5: the maps of the sine and the cosine. -/
theorem angles (c : Dev nD) : (dats m 0 c).arrAt 5 cfg0.N = maps (argBoxes m c) 2 6 (by decide) := by
  refine (dats m 0 c).arrAt_eq_of_covers 5 _ (by decide +kernel) fun t hf y => ?_
  have h := one_le_of_flush noFlush0_5_A hf
  have e := (indexes t h).2.2.2.2.1
  rw [after0_5, outsAt0_B m c t h]
  frame_out
  canon_tiles x h
  · refine plane_maps m c t h 7 _ (plane7_at _) 2 6 1 _ rfl x _ ?_ ?_ ?_ ?_ <;> blk_simp [e]
    exacts [h1.trans (by omega), h2, h3]
  · refine plane_maps m c t h 6 _ (plane6_at _) 2 6 0 _ rfl x _ ?_ ?_ ?_ ?_ <;> blk_simp [e]
    exacts [h1.trans (by omega), h2, h3]

/-- Output window 6: the maps of numbers 8 and 9. -/
theorem speeds (c : Dev nD) : (dats m 0 c).arrAt 6 cfg0.N = maps (argBoxes m c) 2 8 (by decide) := by
  refine (dats m 0 c).arrAt_eq_of_covers 6 _ (by decide +kernel) fun t hf y => ?_
  have h := one_le_of_flush noFlush0_6_A hf
  have e := (indexes t h).2.2.2.2.2.1
  rw [after0_6, outsAt0_B m c t h]
  frame_out
  canon_tiles x h
  · refine plane_maps m c t h 9 _ (plane9_at _) 2 8 1 _ rfl x _ ?_ ?_ ?_ ?_ <;> blk_simp [e]
    exacts [h1.trans (by omega), h2, h3]
  · refine plane_maps m c t h 8 _ (plane8_at _) 2 8 0 _ rfl x _ ?_ ?_ ?_ ?_ <;> blk_simp [e]
    exacts [h1.trans (by omega), h2, h3]

/-- Output window 7: the mask. -/
theorem mask (c : Dev nD) : (dats m 0 c).arrAt 7 cfg0.N = maskMap (argBoxes m c) := by
  refine (dats m 0 c).arrAt_eq_of_covers 7 _ (by decide +kernel) fun t hf y => ?_
  have h := one_le_of_flush noFlush0_7_A hf
  have e := (indexes t h).2.2.2.2.2.2
  rw [after0_7, outsAt0_B m c t h]
  frame_out
  unfold maskMap
  refine plane_cell m c t h _ _ (mask_at _) y _ _ _ ?_ ?_ ?_ <;> blk_simp [e]

end Cert.Targets.Kernel
-- ==== Proof.Stages.lean ====
/-
  The reference's computation by named stages, each a function of the array of boxes, and its results as these stages.
-/
module

public import proofs.«01_k».proof.Proof.Maps
public import proofs.«01_k».proof.Proof.Gen.ReferenceIdeal.Run

@[expose] public section

set_option maxRecDepth 16384

namespace Cert.Targets.Reference

open Idealize.ShloMosaic Idealize.ShloMosaic.TcCoe Cert.ReferenceIdeal Cert.ReferenceIdeal.Gen Cert.ReferenceIdeal.Value

variable {F : FTy → Type} [FloatOps F] (A : FVec F S8x500x10 .f32)

/-- A word at every box. -/
abbrev wordAll (w : BitVec 32) : IVec S8x500 32 := broadcastInDim S8x500 ![] bcast_S_S8x500 (constantI S_ 32 w)

/-- A float at every box. -/
abbrev floatAll (w : BitVec 32) : FVec F S8x500 .f32 := broadcastInDim S8x500 ![] bcast_S_S8x500 (constant S_ .f32 w)

/-- A word at every cell of every batch element. -/
abbrev wordCells (w : BitVec 32) : IVec S8x160000 32 := broadcastInDim S8x160000 ![] bcast_S_S8x160000 (constantI S_ 32 w)

/-- Number 0 of each box. -/
def num0 : FVec F S8x500 .f32 :=
  shapeCast _ (extractStridedSlice S8x500x1 ![0, 0, 0] A slices_S8x500x10_S8x500x1_0_0_0) shapeCasts_S8x500x1_S8x500

/-- Number 1 of each box. -/
def num1 : FVec F S8x500 .f32 :=
  shapeCast _ (extractStridedSlice S8x500x1 ![0, 0, 1] A slices_S8x500x10_S8x500x1_0_0_1) shapeCasts_S8x500x1_S8x500

/-- Number 2 of each box. -/
def num2 : FVec F S8x500 .f32 :=
  shapeCast _ (extractStridedSlice S8x500x1 ![0, 0, 2] A slices_S8x500x10_S8x500x1_0_0_2) shapeCasts_S8x500x1_S8x500

/-- Number 3 of each box. -/
def num3 : FVec F S8x500 .f32 :=
  shapeCast _ (extractStridedSlice S8x500x1 ![0, 0, 3] A slices_S8x500x10_S8x500x1_0_0_3) shapeCasts_S8x500x1_S8x500

/-- Number 4 of each box. -/
def num4 : FVec F S8x500 .f32 :=
  shapeCast _ (extractStridedSlice S8x500x1 ![0, 0, 4] A slices_S8x500x10_S8x500x1_0_0_4) shapeCasts_S8x500x1_S8x500

/-- Number 5 of each box. -/
def num5 : FVec F S8x500 .f32 :=
  shapeCast _ (extractStridedSlice S8x500x1 ![0, 0, 5] A slices_S8x500x10_S8x500x1_0_0_5) shapeCasts_S8x500x1_S8x500

/-- Number 6 of each box. -/
def num6 : FVec F S8x500 .f32 :=
  shapeCast _ (extractStridedSlice S8x500x1 ![0, 0, 6] A slices_S8x500x10_S8x500x1_0_0_6) shapeCasts_S8x500x1_S8x500

/-- Number 8 of each box. -/
def num8 : FVec F S8x500 .f32 :=
  shapeCast _ (extractStridedSlice S8x500x1 ![0, 0, 0] (extractStridedSlice S8x500x2 ![0, 0, 8] A slices_S8x500x10_S8x500x2_0_0_8)
    slices_S8x500x2_S8x500x1_0_0_0) shapeCasts_S8x500x1_S8x500

/-- Number 9 of each box. -/
def num9 : FVec F S8x500 .f32 :=
  shapeCast _ (extractStridedSlice S8x500x1 ![0, 0, 1] (extractStridedSlice S8x500x2 ![0, 0, 8] A slices_S8x500x10_S8x500x2_0_0_8)
    slices_S8x500x2_S8x500x1_0_0_1) shapeCasts_S8x500x1_S8x500

/-- The centres' first coordinates in cells. -/
def gridX : FVec F S8x500 .f32 := Host.divf (subf (num0 A) (floatAll 0x00000000#32)) (floatAll 0x3DCCCCCD#32)

/-- The centres' second coordinates in cells. -/
def gridY : FVec F S8x500 .f32 := Host.divf (subf (num1 A) (floatAll 0xC21EB852#32)) (floatAll 0x3DCCCCCD#32)

/-- The cells' columns. -/
def cellX : IVec S8x500 32 := fptosi 32 (Host.floor (gridX A))

/-- The cells' rows. -/
def cellY : IVec S8x500 32 := fptosi 32 (Host.floor (gridY A))

/-- Which boxes count. -/
def valid : IVec S8x500 1 :=
  andi (cmpf .ogt (Host.reduceAdd (Host.absf (extractStridedSlice S8x500x3 ![0, 0, 0] A slices_S8x500x10_S8x500x3_0_0_0)) (constant S_ .f32 0x00000000#32) reducesTo_S8x500x3_S8x500_d2 h_S_) (floatAll 0x00000000#32))
    (andi (andi (andi (cmpi .sge (cellX A) (wordAll 0#32)) (cmpi .slt (cellX A) (wordAll 400#32))) (cmpi .sge (cellY A) (wordAll 0#32)))
      (cmpi .slt (cellY A) (wordAll 400#32)))

/-- Each box's segment: its cell among all batch elements' cells, or one past them for a box that does not count. -/
def segment : IVec S8x500 32 :=
  select (valid A) (addi (muli (iotaInDim S8x500 32 0) (wordAll 160000#32)) (addi (muli (cellY A) (wordAll 400#32)) (cellX A)))
    (broadcastInDim S8x500 ![] bcast_S_S8x500 (id (constantI S_ 32 1280000#32)))

/-- The greatest box number of each segment, and the least word where there is none. -/
def segments : IVec S1280001 32 :=
  Host.scatter scatter_S1280001_S4000x1_S4000_n_0_0_1 IntOp.maxsi (broadcastInDim S1280001 ![] bcast_S_S1280001 (constantI S_ 32 2147483648#32))
    (broadcastInDim S4000x1 ![0] bcast_S4000_S4000x1_0 (shapeCast _ (segment A) shapeCasts_S8x500_S4000))
    (shapeCast _ (iotaInDim S8x500 32 1) shapeCasts_S8x500_S4000)

/-- The same by batch element and cell. -/
def last : IVec S8x160000 32 :=
  shapeCast _ (extractStridedSlice S1280000 ![0] (segments A) slices_S1280001_S1280000_0) shapeCasts_S1280000_S8x160000

/-- Which cells have a box. -/
def has : IVec S8x160000 1 := cmpi .sge (last A) (wordCells 0#32)

/-- The row of the flat table of boxes that each cell reads, before negative rows are wrapped. -/
def row0 : IVec S8x160000 32 :=
  addi (minsi (broadcastInDim S8x160000 ![] bcast_S_S8x160000 (id (constantI S_ 32 499#32))) (maxsi (broadcastInDim S8x160000 ![] bcast_S_S8x160000 (id (constantI S_ 32 0#32))) (last A)))
    (muli (iotaInDim S8x160000 32 0) (wordCells 500#32))

/-- The row of the flat table of boxes that each cell reads. -/
def row : IVec S8x160000 32 := select (cmpi .slt (row0 A) (wordCells 0#32)) (addi (row0 A) (wordCells 4000#32)) (row0 A)

/-- The ten numbers to show of each box. -/
def stacked : FVec F S8x500x10 .f32 :=
  (concatenate S8x500x10 2 [
    ⟨S8x500x1, ((broadcastInDim S8x500x1 ![0, 1] bcast_S8x500_S8x500x1_0_1 (subf (gridX A) (sitofp .f32 (cellX A)))) : (⟨S8x500x1, .f32⟩ : BufTy).Contents (Elt F))⟩,
    ⟨S8x500x1, ((broadcastInDim S8x500x1 ![0, 1] bcast_S8x500_S8x500x1_0_1 (subf (gridY A) (sitofp .f32 (cellY A)))) : (⟨S8x500x1, .f32⟩ : BufTy).Contents (Elt F))⟩,
    ⟨S8x500x1, ((broadcastInDim S8x500x1 ![0, 1] bcast_S8x500_S8x500x1_0_1 (num2 A)) : (⟨S8x500x1, .f32⟩ : BufTy).Contents (Elt F))⟩,
    ⟨S8x500x1, ((broadcastInDim S8x500x1 ![0, 1] bcast_S8x500_S8x500x1_0_1 (num3 A)) : (⟨S8x500x1, .f32⟩ : BufTy).Contents (Elt F))⟩,
    ⟨S8x500x1, ((broadcastInDim S8x500x1 ![0, 1] bcast_S8x500_S8x500x1_0_1 (num4 A)) : (⟨S8x500x1, .f32⟩ : BufTy).Contents (Elt F))⟩,
    ⟨S8x500x1, ((broadcastInDim S8x500x1 ![0, 1] bcast_S8x500_S8x500x1_0_1 (num5 A)) : (⟨S8x500x1, .f32⟩ : BufTy).Contents (Elt F))⟩,
    ⟨S8x500x1, ((broadcastInDim S8x500x1 ![0, 1] bcast_S8x500_S8x500x1_0_1 (Host.sin (num6 A))) : (⟨S8x500x1, .f32⟩ : BufTy).Contents (Elt F))⟩,
    ⟨S8x500x1, ((broadcastInDim S8x500x1 ![0, 1] bcast_S8x500_S8x500x1_0_1 (Host.cos (num6 A))) : (⟨S8x500x1, .f32⟩ : BufTy).Contents (Elt F))⟩,
    ⟨S8x500x1, ((broadcastInDim S8x500x1 ![0, 1] bcast_S8x500_S8x500x1_0_1 (num8 A)) : (⟨S8x500x1, .f32⟩ : BufTy).Contents (Elt F))⟩,
    ⟨S8x500x1, ((broadcastInDim S8x500x1 ![0, 1] bcast_S8x500_S8x500x1_0_1 (num9 A)) : (⟨S8x500x1, .f32⟩ : BufTy).Contents (Elt F))⟩] concatenates_S8x500x1_S8x500x1_S8x500x1_S8x500x1_S8x500x1_S8x500x1_S8x500x1_S8x500x1_S8x500x1_S8x500x1_S8x500x10_d2 : (⟨S8x500x10, .f32⟩ : BufTy).Contents (Elt F))

/-- The same as a flat table. -/
def table : FVec F S4000x10 .f32 := shapeCast _ (stacked A) shapeCasts_S8x500x10_S4000x10

/-- The table's row at each cell. -/
def got : FVec F S8x160000x10 .f32 :=
  Host.gather gather_S4000x10_S8x160000x1_S8x160000x10_2_0_n_n_0_2_110 (table A) (broadcastInDim S8x160000x1 ![0, 1] bcast_S8x160000_S8x160000x1_0_1 (row A))

/-- All ten numbers at each cell, and zeros where there is no box. -/
def shown : FVec F S8x160000x10 .f32 :=
  select (broadcastInDim S8x160000x10 ![0, 1, 2] bcast_S8x160000x1_S8x160000x10_0_1_2 (broadcastInDim S8x160000x1 ![0, 1] bcast_S8x160000_S8x160000x1_0_1 (has A)))
    (got A) (broadcastInDim S8x160000x10 ![] bcast_S_S8x160000x10 (id (constant S_ .f32 0x00000000#32)))

/-- The ten maps. -/
def tenMaps : FVec F S8x10x400x400 .f32 :=
  shapeCast _ (transpose S8x10x160000 [0, 2, 1] (shown A) transposes_S8x160000x10_S8x10x160000_0_2_1) shapeCasts_S8x10x160000_S8x10x400x400

/-- The mask's plane. -/
def maskPlane : FVec F S8x1x400x400 .f32 := shapeCast _ (uitofp .f32 (has A)) shapeCasts_S8x160000_S8x1x400x400

variable (m : (ℓ : Loc nD τ sig) → Buf (Elt F) ℓ) (c : Dev nD)

/-- The array of boxes that a run starts with. -/
abbrev argBoxes : FVec F S8x500x10 .f32 := m ((c.tc : Thread nD τ).loc main_arg0)

/-- The offsets of the reference are a slice of the ten stacked maps. -/
theorem res100 : res_main_v100 m c = extractStridedSlice S8x2x400x400 ![0, 0, 0, 0] (tenMaps (argBoxes m c)) slices_S8x10x400x400_S8x2x400x400_0_0_0_0 := rfl

/-- The heights of the reference are a slice of the ten stacked maps. -/
theorem res101 : res_main_v101 m c = extractStridedSlice S8x1x400x400 ![0, 2, 0, 0] (tenMaps (argBoxes m c)) slices_S8x10x400x400_S8x1x400x400_0_2_0_0 := rfl

/-- The sizes of the reference are a slice of the ten stacked maps. -/
theorem res102 : res_main_v102 m c = extractStridedSlice S8x3x400x400 ![0, 3, 0, 0] (tenMaps (argBoxes m c)) slices_S8x10x400x400_S8x3x400x400_0_3_0_0 := rfl

/-- The angles of the reference are a slice of the ten stacked maps. -/
theorem res103 : res_main_v103 m c = extractStridedSlice S8x2x400x400 ![0, 6, 0, 0] (tenMaps (argBoxes m c)) slices_S8x10x400x400_S8x2x400x400_0_6_0_0 := rfl

/-- The speeds of the reference are a slice of the ten stacked maps. -/
theorem res104 : res_main_v104 m c = extractStridedSlice S8x2x400x400 ![0, 8, 0, 0] (tenMaps (argBoxes m c)) slices_S8x10x400x400_S8x2x400x400_0_8_0_0 := rfl

end Cert.Targets.Reference
-- ==== Proof.Lookup.lean ====
/-
  The reference's scatter and gather read at an element, and the greatest word of a list of updates.
-/
module

public import proofs.«01_k».proof.Proof.Stages
public import Idealize.ShloMosaic.Lib.Routing.OpsPair
public import Idealize.ShloMosaic.Lib.WordArith

@[expose] public section

set_option maxRecDepth 16384

namespace Cert.Targets.Reference

open Idealize.ShloMosaic Idealize.ShloMosaic.TcCoe Cert.ReferenceIdeal Cert.ReferenceIdeal.Gen

/-- Where the scatter puts update `k`: at the index word it is given. -/
theorem start_at (idx : IVec S4000x1 32) (k : Fin 4000) :
    scatter_S1280001_S4000x1_S4000_n_0_0_1.start (ix1 k) idx 0 = (idx (ix2 k 0)).toInt := by
  unfold ScatterDims.start
  rw [dif_pos (by decide)]
  congr 2
  funext b
  match b with
  | ⟨0, _⟩ => rfl
  | ⟨1, _⟩ => rfl

/-- The scatter's window is one element wide, so it adds nothing to the start. -/
theorem window_at (k : Fin 4000) : scatter_S1280001_S4000x1_S4000_n_0_0_1.window (ix1 k) 0 = 0 := by
  unfold ScatterDims.window
  rw [dif_neg (by decide)]

/-- Update `k` lands at element `e` exactly when its word, read signed, is `e`. -/
theorem lands (idx : IVec S4000x1 32) (k : Fin 4000) (e : Fin 1280001) :
    scatter_S1280001_S4000x1_S4000_n_0_0_1.resultIdx? (ix1 k) idx = some (ix1 e) ↔ (idx (ix2 k 0)).toInt = (e.val : Int) := by
  have key : scatter_S1280001_S4000x1_S4000_n_0_0_1.start (ix1 k) idx 0 + (scatter_S1280001_S4000x1_S4000_n_0_0_1.window (ix1 k) 0 : Int)
      = (idx (ix2 k 0)).toInt := by
    rw [start_at, window_at, Int.natCast_zero, Int.add_zero]
  rw [Routing.resultIdx?_eq_some]
  constructor
  · intro h
    exact key.symm.trans (h 0)
  · intro h a
    match a with
    | ⟨0, _⟩ => exact key.trans h

/-- The gather of whole rows of the flat table: a cell whose word is `r` reads row `r`. -/
theorem gather_at (x : FVec Ideal S4000x10 .f32) (idx : IVec S8x160000x1 32) (b : Fin 8) (k : Fin 160000) (f : Fin 10) (r : Fin 4000)
    (h : idx (ix3 b k 0) = BitVec.ofNat 32 r.val) :
    Host.gather gather_S4000x10_S8x160000x1_S8x160000x10_2_0_n_n_0_2_110 x idx (ix3 b k f) = x (ix2 r f) := by
  unfold Host.gather
  refine congrArg x (funext fun a => Fin.ext ?_)
  match a with
  | ⟨0, _⟩ =>
    show GatherDims.start _ _ idx 0 + GatherDims.batchCoord _ _ 0 + GatherDims.offCoord _ _ 0 = r.val
    rw [GatherDims.batchCoord_eq_zero _ _ _ (by decide), GatherDims.offCoord_eq_zero _ _ _ (by decide)]
    unfold GatherDims.start
    rw [dif_pos (by decide)]
    rw [show GatherDims.siIdx _ _ _ = ix3 b k 0 from funext fun b' => match b' with
      | ⟨0, _⟩ => rfl
      | ⟨1, _⟩ => rfl
      | ⟨2, _⟩ => rfl, h]
    have := r.isLt
    rw [StableHlo.Predicate.toInt_ofNat_small _ (by omega)]
    show min ((r.val : Int)).toNat (4000 - 1) + 0 + 0 = r.val
    omega
  | ⟨1, _⟩ =>
    show GatherDims.start _ _ idx 1 + GatherDims.batchCoord _ _ 1 + GatherDims.offCoord _ _ 1 = f.val
    rw [GatherDims.batchCoord_eq_zero _ _ _ (by decide)]
    unfold GatherDims.start GatherDims.offCoord
    rw [dif_neg (by decide), dif_pos (by decide), Nat.add_zero, Nat.zero_add]
    rfl

/-- The greater of two words, read signed. -/
theorem maxsi_toInt (a b : BitVec 32) : (IntOp.maxsi a b).toInt = max a.toInt b.toInt := by
  unfold IntOp.maxsi
  split <;> simp_all [BitVec.slt] <;> omega

variable {α : Type} (P : α → Prop) [DecidablePred P] (w : α → BitVec 32)

/-- No update lands: the element keeps its word. -/
theorem fold_none (L : List α) (a : BitVec 32) (h : ∀ k ∈ L, ¬ P k) :
    L.foldl (fun a k => if P k then IntOp.maxsi a (w k) else a) a = a := by
  induction L with
  | nil => rfl
  | cons k L ih =>
    rw [List.foldl_cons, if_neg (h k List.mem_cons_self)]
    exact ih fun j hj => h j (List.mem_cons_of_mem k hj)

/-- Updates no greater than `M` land on a word no greater than `M`: the word stays so, and is `M` once it or a landing update is. -/
theorem fold_bound (M : BitVec 32) (L : List α) (hL : ∀ k ∈ L, P k → (w k).toInt ≤ M.toInt) (a : BitVec 32) (ha : a.toInt ≤ M.toInt)
    (h : a = M ∨ ∃ k ∈ L, P k ∧ w k = M) :
    L.foldl (fun a k => if P k then IntOp.maxsi a (w k) else a) a = M := by
  induction L generalizing a with
  | nil => simpa using h
  | cons k L ih =>
    rw [List.foldl_cons]
    by_cases hk : P k
    · have hb := hL k List.mem_cons_self hk
      rw [if_pos hk]
      refine ih (fun j hj => hL j (List.mem_cons_of_mem k hj)) _ (by rw [maxsi_toInt]; omega) ?_
      rcases h with rfl | ⟨j, hj, hPj, hw⟩
      · exact Or.inl (BitVec.eq_of_toInt_eq (by rw [maxsi_toInt]; omega))
      · rcases List.mem_cons.mp hj with rfl | hj
        · exact Or.inl (BitVec.eq_of_toInt_eq (by rw [maxsi_toInt, hw]; omega))
        · exact Or.inr ⟨j, hj, hPj, hw⟩
    · rw [if_neg hk]
      refine ih (fun j hj => hL j (List.mem_cons_of_mem k hj)) a ha ?_
      rcases h with rfl | ⟨j, hj, hPj, hw⟩
      · exact Or.inl rfl
      · rcases List.mem_cons.mp hj with rfl | hj
        · exact absurd hPj hk
        · exact Or.inr ⟨j, hj, hPj, hw⟩

end Cert.Targets.Reference
-- ==== Proof.RefMaps.lean ====
/-
  The reference's results, as the maps of the array of boxes.
-/
module

public import proofs.«01_k».proof.Proof.Lookup

@[expose] public section

set_option maxRecDepth 16384

namespace Cert.Targets.Reference

open Idealize.ShloMosaic Idealize.ShloMosaic.TcCoe Cert.ReferenceIdeal Cert.ReferenceIdeal.Gen

variable (A : FVec Ideal S8x500x10 .f32)

/-! ## The boxes -/

/-- The reference's position of a box on the grid, along x. -/
theorem gridX_at (b : Fin 8) (n : Fin 500) : gridX A (ix2 b n) = posX (boxesOf A b n) := by
  pointwise [gridX, num0, floatAll]
  rfl

/-- The reference's position of a box on the grid, along y. -/
theorem gridY_at (b : Fin 8) (n : Fin 500) : gridY A (ix2 b n) = posY (boxesOf A b n) := by
  pointwise [gridY, num1, floatAll]
  rfl

/-- The reference's cell index of a box, along x. -/
theorem cellX_at (b : Fin 8) (n : Fin 500) : cellX A (ix2 b n) = wordX (boxesOf A b n) := by
  pointwise [cellX]
  rw [gridX_at]
  rfl

/-- The reference's cell index of a box, along y. -/
theorem cellY_at (b : Fin 8) (n : Fin 500) : cellY A (ix2 b n) = wordY (boxesOf A b n) := by
  pointwise [cellY]
  rw [gridY_at]
  rfl

/-- The reference's test that a box is valid. -/
theorem valid_at (b : Fin 8) (n : Fin 500) : valid A (ix2 b n) = validBit (boxesOf A b n) := by
  pointwise [valid, wordAll, floatAll]
  simp only [cellX_at, cellY_at, Fin.sum_univ_three]
  rfl

/-- Row `f` of the ten stacked arrays is the number that a box shows in map `f`. -/
theorem stacked_at (b : Fin 8) (n : Fin 500) (f : Fin 10) : stacked A (ix3 b n f) = feat (boxesOf A b n) f := by
  pointwise [stacked]
  match f with
  | 0 => simp [gridX_at, cellX_at, feat]
  | 1 => simp [gridY_at, cellY_at, feat]
  | 2 => pointwise [num2]; rfl
  | 3 => pointwise [num3]; rfl
  | 4 => pointwise [num4]; rfl
  | 5 => pointwise [num5]; rfl
  | 6 => pointwise [num6]; rfl
  | 7 => pointwise [num6]; rfl
  | 8 => pointwise [num8]; rfl
  | 9 => pointwise [num9]; rfl

/-! ## The last box of a cell -/

/-- The number of a cell among all batch elements' cells. -/
def place (b : Fin 8) (y x : Fin 400) : Fin 1280001 :=
  ⟨b.val * 160000 + (y.val * 400 + x.val), by have := b.isLt; have := y.isLt; have := x.isLt; omega⟩

/-- A box's segment is the cell that it hits. -/
theorem segment_eq_iff (b' b : Fin 8) (n : Fin 500) (y x : Fin 400) :
    (segment A (ix2 b' n)).toInt = ((place b y x).val : Int) ↔ b' = b ∧ Hit (boxesOf A b' n) y x := by
  have hb := b.isLt
  have hb' := b'.isLt
  have hy := y.isLt
  have hx := x.isLt
  have e : segment A (ix2 b' n) = Scalar.select (validBit (boxesOf A b' n))
      (IntOp.addi (IntOp.muli (BitVec.ofNat 32 b'.val) 160000#32) (IntOp.addi (IntOp.muli (wordY (boxesOf A b' n)) 400#32) (wordX (boxesOf A b' n))))
      1280000#32 := by
    pointwise [segment, wordAll]
    rw [valid_at, cellX_at, cellY_at]
    rfl
  unfold Hit place
  by_cases hv : validBit (boxesOf A b' n) = 1#1
  · obtain ⟨hX, hY⟩ := validBit_bounds hv
    generalize wordX (boxesOf A b' n) = wx at *
    generalize wordY (boxesOf A b' n) = wy at *
    have ev : (segment A (ix2 b' n)).toNat = b'.val * 160000 + (wy.toNat * 400 + wx.toNat) := by
      rw [e, hv]
      show (BitVec.ofNat 32 b'.val * 160000#32 + (wy * 400#32 + wx)).toNat = _
      simp only [BitVec.toNat_add, BitVec.toNat_mul, BitVec.toNat_ofNat]
      omega
    have ex : wx = BitVec.ofNat 32 x.val ↔ wx.toNat = x.val := by
      rw [← BitVec.toNat_inj, BitVec.toNat_ofNat, Nat.mod_eq_of_lt (by omega)]
    have ey : wy = BitVec.ofNat 32 y.val ↔ wy.toNat = y.val := by
      rw [← BitVec.toNat_inj, BitVec.toNat_ofNat, Nat.mod_eq_of_lt (by omega)]
    rw [BitVec.toInt_eq_toNat_of_lt (by omega), ev, ex, ey, Fin.ext_iff]
    constructor
    · intro h
      dsimp only at h
      refine ⟨by omega, hv, by omega, by omega⟩
    · rintro ⟨h1, -, h2, h3⟩
      dsimp only
      omega
  · have es : segment A (ix2 b' n) = 1280000#32 := by
      rw [e]
      exact if_neg hv
    rw [es]
    constructor
    · intro h
      dsimp only at h
      rw [show (1280000#32 : BitVec 32).toInt = 1280000 from by decide] at h
      omega
    · intro h
      exact absurd h.2.1 hv

/-- The box that update `k` stands for lands at a cell exactly when it is the cell's batch element's and hits it. -/
theorem update_lands (k : Fin 4000) (b : Fin 8) (y x : Fin 400) :
    scatter_S1280001_S4000x1_S4000_n_0_0_1.resultIdx? (ix1 k)
        (broadcastInDim S4000x1 ![0] bcast_S4000_S4000x1_0 (shapeCast _ (segment A) shapeCasts_S8x500_S4000)) = some (ix1 (place b y x))
      ↔ k.val / 500 = b.val ∧ Hit (boxesOf A b ⟨k.val % 500, Nat.mod_lt _ (by decide)⟩) y x := by
  have hk := k.isLt
  have e : broadcastInDim S4000x1 ![0] bcast_S4000_S4000x1_0 (shapeCast _ (segment A) shapeCasts_S8x500_S4000) (ix2 k 0)
      = segment A (ix2 ⟨k.val / 500, by omega⟩ ⟨k.val % 500, Nat.mod_lt _ (by decide)⟩) := by
    pointwise []
  rw [lands, e, segment_eq_iff]
  constructor
  · rintro ⟨h, hit⟩
    subst h
    exact ⟨rfl, hit⟩
  · rintro ⟨h, hit⟩
    have hb : (⟨k.val / 500, by omega⟩ : Fin 8) = b := Fin.ext h
    rw [hb]
    exact ⟨rfl, hit⟩

/-- The word that a cell's segment ends with, as a fold over the boxes of all batch elements. -/
theorem segments_at (b : Fin 8) (y x : Fin 400) :
    segments A (ix1 (place b y x)) = (List.finRange S4000.numel).foldl
      (fun a n => if scatter_S1280001_S4000x1_S4000_n_0_0_1.resultIdx? (S4000.rowMajor.symm n)
          (broadcastInDim S4000x1 ![0] bcast_S4000_S4000x1_0 (shapeCast _ (segment A) shapeCasts_S8x500_S4000)) = some (ix1 (place b y x))
        then IntOp.maxsi a (shapeCast S4000 (iotaInDim S8x500 32 1) shapeCasts_S8x500_S4000 (S4000.rowMajor.symm n)) else a) 2147483648#32 := by
  unfold segments
  rw [Routing.scatter_at]
  rfl

/-- An update's place as a number below 4000. -/
theorem update_index (n : Fin S4000.numel) : ∃ k : Fin 4000, S4000.rowMajor.symm n = ix1 k :=
  ⟨S4000.rowMajor.symm n 0, by funext a; match a with | ⟨0, _⟩ => rfl⟩

/-- The word of update `k`: the number of its box within its batch element. -/
theorem update_word (k : Fin 4000) :
    shapeCast S4000 (iotaInDim S8x500 32 1) shapeCasts_S8x500_S4000 (ix1 k) = BitVec.ofNat 32 (k.val % 500) := by
  pointwise []

/-- The reference's last box of a cell, as the maximum over the scattered box numbers. -/
theorem last_at (b : Fin 8) (y x : Fin 400) (h : y.val * 400 + x.val < 160000) :
    last A (ix2 b ⟨y.val * 400 + x.val, h⟩) = segments A (ix1 (place b y x)) := by
  pointwise [last]
  rfl

/-- A cell that no box hits has the least word. -/
theorem last_none (b : Fin 8) (y x : Fin 400) (h : y.val * 400 + x.val < 160000) (hn : ¬ ∃ n, Hit (boxesOf A b n) y x) :
    last A (ix2 b ⟨y.val * 400 + x.val, h⟩) = 2147483648#32 := by
  rw [last_at, segments_at]
  refine fold_none _ _ _ _ fun n _ hl => ?_
  obtain ⟨k, hk⟩ := update_index n
  rw [hk, update_lands] at hl
  exact hn ⟨_, hl.2⟩

/-- A cell's word is the number of the last box that hits it. -/
theorem last_some (b : Fin 8) (y x : Fin 400) (h : y.val * 400 + x.val < 160000) (n : Fin 500) (hn : Last (boxesOf A b) y x n) :
    last A (ix2 b ⟨y.val * 400 + x.val, h⟩) = BitVec.ofNat 32 n.val := by
  have hb := b.isLt
  have hnl := n.isLt
  have hM : (BitVec.ofNat 32 n.val).toInt = n.val := StableHlo.Predicate.toInt_ofNat_small _ (by omega)
  rw [last_at, segments_at]
  refine fold_bound _ _ (BitVec.ofNat 32 n.val) _ (fun j _ hl => ?_) _ ?_ (Or.inr ?_)
  · obtain ⟨k, hk⟩ := update_index j
    rw [hk, update_lands] at hl
    have hlt := Nat.mod_lt k.val (show 0 < 500 by decide)
    rw [hk, update_word, StableHlo.Predicate.toInt_ofNat_small _ (by omega), hM]
    by_contra hc
    exact hn.2 ⟨k.val % 500, hlt⟩ (by rw [Fin.lt_def]; dsimp only; omega) hl.2
  · rw [hM]
    exact le_trans (show (2147483648#32 : BitVec 32).toInt ≤ 0 by decide) (Int.natCast_nonneg _)
  · have hk : b.val * 500 + n.val < 4000 := by omega
    refine ⟨S4000.rowMajor (ix1 ⟨b.val * 500 + n.val, hk⟩), List.mem_finRange _, ?_, ?_⟩
    · rw [Equiv.symm_apply_apply, update_lands]
      have e : (⟨(b.val * 500 + n.val) % 500, Nat.mod_lt _ (by decide)⟩ : Fin 500) = n := Fin.ext (by dsimp only; omega)
      refine ⟨by dsimp only; omega, ?_⟩
      dsimp only
      rw [e]
      exact hn.1
    · rw [Equiv.symm_apply_apply, update_word]
      congr 1
      dsimp only
      omega

/-! ## The maps -/

/-- Box `n` of batch element `b` has row `500 b + n` in the flat table, and clamping its number or wrapping its row changes nothing. -/
theorem row_word : ∀ (b : Fin 8) (n : Fin 500),
    Scalar.select
        (IntOp.cmpi .slt (IntOp.addi (IntOp.minsi 499#32 (IntOp.maxsi 0#32 (BitVec.ofNat 32 n.val))) (IntOp.muli (BitVec.ofNat 32 b.val) 500#32)) 0#32)
        (IntOp.addi (IntOp.addi (IntOp.minsi 499#32 (IntOp.maxsi 0#32 (BitVec.ofNat 32 n.val))) (IntOp.muli (BitVec.ofNat 32 b.val) 500#32)) 4000#32)
        (IntOp.addi (IntOp.minsi 499#32 (IntOp.maxsi 0#32 (BitVec.ofNat 32 n.val))) (IntOp.muli (BitVec.ofNat 32 b.val) 500#32))
      = BitVec.ofNat 32 (b.val * 500 + n.val) := by
  decide +kernel

/-- The row of the flat table at a cell whose last box is `n`. -/
theorem row_of_last (b : Fin 8) (k : Fin 160000) (n : Fin 500) (h : last A (ix2 b k) = BitVec.ofNat 32 n.val) :
    row A (ix2 b k) = BitVec.ofNat 32 (b.val * 500 + n.val) := by
  pointwise [row, row0, wordCells]
  rw [h]
  exact row_word b n

/-- What a cell with a last box reads. -/
theorem got_at (b : Fin 8) (k : Fin 160000) (n : Fin 500) (f : Fin 10) (h : last A (ix2 b k) = BitVec.ofNat 32 n.val) :
    got A (ix3 b k f) = feat (boxesOf A b n) f := by
  have hb := b.isLt
  have hn := n.isLt
  have hr : b.val * 500 + n.val < 4000 := by omega
  unfold got
  rw [gather_at _ _ b k f ⟨b.val * 500 + n.val, hr⟩ (by pointwise []; exact row_of_last A b k n h)]
  pointwise [table]
  exact stacked_at A b n f

/-- The bit of a cell with a last box. -/
theorem has_some : ∀ n : Fin 500, IntOp.cmpi .sge (BitVec.ofNat 32 n.val) 0#32 = 1#1 := by
  decide +kernel

/-- The ten maps at an element. -/
theorem tenMaps_at (b : Fin 8) (f : Fin 10) (y x : Fin 400) :
    tenMaps A (ix4 b f y x) = cell (boxesOf A b) (fun g => feat g f) y x := by
  pointwise [tenMaps, shown, has, wordCells]
  by_cases h : ∃ n, Hit (boxesOf A b n) y x
  · obtain ⟨n, hn⟩ := exists_last _ y x h
    have hl := last_some A b y x (by have := y.isLt; have := x.isLt; omega) n hn
    rw [got_at A b _ n f hl, hl, has_some, cell_of_last _ hn]
    rfl
  · rw [last_none A b y x _ h, cell_of_none _ (not_exists.mp h)]
    show constant (F := Ideal) S_ FTy.f32 0#32 ix0 = (0 : EReal)
    pointwise []

/-- The mask at an element. -/
theorem maskPlane_at (b : Fin 8) (y x : Fin 400) : maskPlane A (ix4 b 0 y x) = cell (boxesOf A b) (fun _ => 1) y x := by
  pointwise [maskPlane, has, wordCells]
  by_cases h : ∃ n, Hit (boxesOf A b n) y x
  · obtain ⟨n, hn⟩ := exists_last _ y x h
    rw [last_some A b y x (by have := y.isLt; have := x.isLt; omega) n hn, has_some, cell_of_last _ hn]
    simp [FloatOps.uitofp]
  · rw [last_none A b y x _ h, cell_of_none _ (not_exists.mp h)]
    simp [FloatOps.uitofp, IntOp.cmpi]

/-- `C` of the ten maps from number `off` on, when they are read off at an element. -/
theorem maps_of_at (C off : ℕ) (hC : off + C ≤ 10) (p : FVec Ideal ⟨4, ![8, C, 400, 400]⟩ .f32)
    (hp : ∀ b k y x, p (ix4 b k y x) = tenMaps A (ix4 b ⟨off + k.val, lt_of_lt_of_le (Nat.add_lt_add_left k.isLt off) hC⟩ y x)) :
    p = maps A C off hC := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  exact (congrArg p hi).trans ((hp _ _ _ _).trans (tenMaps_at A _ _ _ _))

/-- The mask's array. -/
theorem maskPlane_eq : maskPlane A = maskMap A := by
  funext i
  have hi : i = (ix4 (i 0) 0 (i 2) (i 3) : S8x1x400x400.Idx) := by
    funext a
    match a with
    | ⟨0, _⟩ => rfl
    | ⟨1, _⟩ => exact Fin.ext (by have : (i 1).val < 1 := (i 1).isLt; show (i 1).val = 0; omega)
    | ⟨2, _⟩ => rfl
    | ⟨3, _⟩ => rfl
  exact (congrArg (maskPlane A) hi).trans (maskPlane_at A _ _ _)

open Cert.ReferenceIdeal.Value

variable (m : (ℓ : Loc nD τ sig) → Buf (Elt Ideal) ℓ) (c : Dev nD)

/-- The maps from number 0 on that the reference returns. -/
theorem offsets : res_main_v100 m c = maps (argBoxes m c) 2 0 (by decide) := by
  rw [res100]
  refine maps_of_at _ 2 0 _ _ fun b k y x => ?_
  pointwise []

/-- The maps from number 2 on that the reference returns. -/
theorem heights : res_main_v101 m c = maps (argBoxes m c) 1 2 (by decide) := by
  rw [res101]
  refine maps_of_at _ 1 2 _ _ fun b k y x => ?_
  pointwise []

/-- The maps from number 3 on that the reference returns. -/
theorem sizes : res_main_v102 m c = maps (argBoxes m c) 3 3 (by decide) := by
  rw [res102]
  refine maps_of_at _ 3 3 _ _ fun b k y x => ?_
  pointwise []

/-- The maps from number 6 on that the reference returns. -/
theorem angles : res_main_v103 m c = maps (argBoxes m c) 2 6 (by decide) := by
  rw [res103]
  refine maps_of_at _ 2 6 _ _ fun b k y x => ?_
  pointwise []

/-- The maps from number 8 on that the reference returns. -/
theorem speeds : res_main_v104 m c = maps (argBoxes m c) 2 8 (by decide) := by
  rw [res104]
  refine maps_of_at _ 2 8 _ _ fun b k y x => ?_
  pointwise []

end Cert.Targets.Reference
-- ==== Proof.lean ====
/-
  The proof of the certificate's claim: the three programs run and leave their arguments and counters as they were, and the kernel and
  the reference return equal arrays. Each of the seven arrays is one function of the array of boxes on both sides: `maps` and `maskMap` of
  `Proof/Maps.lean`, and zeros for the first.
-/
module

public import proofs.«01_k».proof.Proof.KernelArray
public import proofs.«01_k».proof.Proof.RefMaps
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Targets

/-- The reference runs, leaves its arguments as they were, and has no counter. -/
theorem reference_frame : Cert.quiescent_ReferenceIdeal := fun m g _ =>
  (θ_run _ _ _).mono (fun r h => ⟨fun c => (h c).2.2.2.2.2.2.2, sem_eq_zero_of_no_sems (by decide) r.2⟩) (Cert.ReferenceIdeal.Value.run m g)

/-- The reference's first result: zero everywhere. -/
theorem reference_heatmap :
    broadcastInDim Cert.ReferenceIdeal.S8x4x400x400 ![] Cert.ReferenceIdeal.Gen.bcast_S_S8x4x400x400
      (constant (F := Ideal) Cert.ReferenceIdeal.S_ .f32 0x00000000#32) = fun _ => (0 : EReal) := by
  funext i
  pointwise []

/-- The kernel and the reference return equal arrays. -/
theorem equal : Cert.algebraic_KernelIdeal_ReferenceIdeal := by
  intro m g m' g' _ hagree
  refine ⟨fun _ _ => (0 : EReal), fun c => maps (Kernel.argBoxes m c) 2 0 (by decide), fun c => maps (Kernel.argBoxes m c) 1 2 (by decide),
    fun c => maps (Kernel.argBoxes m c) 3 3 (by decide), fun c => maps (Kernel.argBoxes m c) 2 6 (by decide),
    fun c => maps (Kernel.argBoxes m c) 2 8 (by decide), fun c => maskMap (Kernel.argBoxes m c), ?_, ?_⟩
  · refine (θ_run _ _ _).mono (fun r h c => ?_) (Cert.KernelIdeal.Value.run_blocks m g)
    obtain ⟨h0, h1, h2, h3, h4, h5, h6, ha, hb⟩ := h c
    exact ⟨h0.trans (Kernel.heatmap m c), h1.trans (Kernel.offsets m c), h2.trans (Kernel.heights m c), h3.trans (Kernel.sizes m c),
      h4.trans (Kernel.angles m c), h5.trans (Kernel.speeds m c), h6.trans (Kernel.mask m c), ha, hb⟩
  · refine (θ_run _ _ _).mono (fun r h c => ?_) (Cert.ReferenceIdeal.Value.run m' g')
    obtain ⟨h0, h1, h2, h3, h4, h5, h6, ha, hb⟩ := h c
    have e : Reference.argBoxes m' c = Kernel.argBoxes m c := (hagree c).1
    beta_reduce
    rw [← e]
    exact ⟨h0.trans reference_heatmap, h1.trans (Reference.offsets m' c), h2.trans (Reference.heights m' c), h3.trans (Reference.sizes m' c),
      h4.trans (Reference.angles m' c), h5.trans (Reference.speeds m' c), h6.trans (Reference.maskPlane_eq _), ha, hb⟩

/-- The certificate's claim. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, reference_frame, trivial, equal⟩

end Cert.Proof

end
